-- ==== Defs.lean ====
def Pre_Kernel [hPre_row_exists : Cert.Pre_row_exists.Facts] (m : (ℓ : Loc Cert.Kernel.nD Cert.Kernel.τ Cert.Kernel.sig) → Buf (Elt Bits) ℓ) : Prop :=
  ∀ c : Dev Cert.Kernel.nD,
    (Cert.Pre_row_exists.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_row_exists : Cert.Pre_row_exists.Facts] (m : (ℓ : Loc Cert.KernelIdeal.nD Cert.KernelIdeal.τ Cert.KernelIdeal.sig) → Buf (Elt Ideal) ℓ) : Prop :=
  ∀ c : Dev Cert.KernelIdeal.nD,
    (Cert.Pre_row_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_exists [hPre_row_exists : Cert.Pre_row_exists.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_exists.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_row_exists : Cert.Pre_row_exists.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_row_exists : Cert.Pre_row_exists.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_row_exists [hReferenceIdeal : Cert.ReferenceIdeal.Facts] [hPre_row_exists : Cert.Pre_row_exists.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_exists m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_row_exists : Cert.Pre_row_exists.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_row_exists : Cert.Pre_row_exists.Facts),
    quiescent_Kernel (hKernel := hKernel) (hPre_row_exists := hPre_row_exists)
    ∧ quiescent_KernelIdeal (hKernelIdeal := hKernelIdeal) (hPre_row_exists := hPre_row_exists)
    ∧ quiescent_ReferenceIdeal (hReferenceIdeal := hReferenceIdeal)
    ∧ quiescent_ReferenceIdeal_pre_row_exists (hReferenceIdeal := hReferenceIdeal) (hPre_row_exists := hPre_row_exists)
    ∧ preserves_Kernel_KernelIdeal
    ∧ algebraic_KernelIdeal_ReferenceIdeal (hKernelIdeal := hKernelIdeal) (hReferenceIdeal := hReferenceIdeal) (hPre_row_exists := hPre_row_exists)
-- ==== Pre_row_exists.lean ====
abbrev S6x7 : Shape := ⟨2, ![6, 7]⟩
abbrev S7 : Shape := ⟨1, ![7]⟩
abbrev S_ : Shape := ⟨0, ![]⟩

class Facts : Prop where

variable [Facts]

def fn {F : FTy → Type} [FloatOps F] (main_arg0 : FVec F S6x7 .f32) (main_arg1 : FVec F S7 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 6#32
  let main_v1 : IVec S_ 1 := cmpi .slt main_arg2 main_c_0
  let main_v2 : IVec S_ 1 := andi main_v0 main_v1
  main_v2
-- ==== Kernel.lean ====
abbrev S6x7 : Shape := ⟨2, ![6, 7]⟩
abbrev S7 : Shape := ⟨1, ![7]⟩
abbrev S_ : Shape := ⟨0, ![]⟩
abbrev S42 : Shape := ⟨1, ![42]⟩
abbrev S1 : Shape := ⟨1, ![1]⟩
abbrev S8 : Shape := ⟨1, ![8]⟩

abbrev nBuf : Table → Nat
  | .hbm => 8
  | .local .scScalar .smem => 4
  | _ => 0

abbrev bufTy : (tb : Table) → Fin (nBuf tb) → BufTy
  | .hbm, ⟨0, _⟩ => ⟨S6x7, .f32⟩
  | .hbm, ⟨1, _⟩ => ⟨S7, .f32⟩
  | .hbm, ⟨2, _⟩ => ⟨S_, .i32⟩
  | .hbm, ⟨3, _⟩ => ⟨S42, .f32⟩
  | .hbm, ⟨4, _⟩ => ⟨S1, .i32⟩
  | .hbm, ⟨5, _⟩ => ⟨S8, .f32⟩
  | .hbm, ⟨6, _⟩ => ⟨S1, .f32⟩
  | .hbm, ⟨7, _⟩ => ⟨S_, .f32⟩
  | .local .scScalar .smem, ⟨0, _⟩ => ⟨S42, .f32⟩
  | .local .scScalar .smem, ⟨1, _⟩ => ⟨S7, .f32⟩
  | .local .scScalar .smem, ⟨2, _⟩ => ⟨S1, .i32⟩
  | .local .scScalar .smem, ⟨3, _⟩ => ⟨S8, .f32⟩
  | _, _ => ⟨S6x7, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scs : Ref sig .scScalar := ⟨.hbm, 3, rfl⟩
abbrev main_arg1_scs : Ref sig .scScalar := ⟨.hbm, 1, rfl⟩
abbrev main_v1_scs : Ref sig .scScalar := ⟨.hbm, 4, rfl⟩
abbrev main_v2_scs : Ref sig .scScalar := ⟨.hbm, 5, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 1 → Nat :=
  let c7_i32 : BitVec 32 := 7#32
  let v2 : BitVec 32 := Scalar.muli v1 c7_i32
  let v3 : Index := Scalar.indexCast v2
  ![v3.toNat]

def k0_off2 (v1 : BitVec 32) (c1_i32 : BitVec 32) : Fin 1 → Nat :=
  let c7_i32 : BitVec 32 := 7#32
  let v2 : BitVec 32 := Scalar.muli v1 c7_i32
  let v8 : BitVec 32 := Scalar.addi v2 c1_i32
  let v9 : Index := Scalar.indexCast v8
  ![v9.toNat]

def k0_chk1 (v1 : BitVec 32) : Prop :=
  (∀ a, (k0_off1 v1) a + S1.size a ≤ S42.size a) ∧
  (∀ (r : Fin 6), ∀ a, (k0_off2 v1 (BitVec.ofNat 32 (1 + r.val))) a + S1.size a ≤ S42.size a)
theorem k0_off1_inb : ∀ (v1 : BitVec 32) (k0_hw1 : k0_chk1 v1), ∀ a, (k0_off1 v1) a + S1.size a ≤ S42.size a := fun v1 k0_hw1 => k0_hw1.1
theorem k0_off2_inb : ∀ (v1 : BitVec 32) (k0_hw1 : k0_chk1 v1), ∀ (r : Fin 6), ∀ a, (k0_off2 v1 (BitVec.ofNat 32 (1 + r.val))) a + S1.size a ≤ S42.size a := fun v1 k0_hw1 r => k0_hw1.2 r

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S6x7 : Shape := ⟨2, ![6, 7]⟩
abbrev S7 : Shape := ⟨1, ![7]⟩
abbrev S_ : Shape := ⟨0, ![]⟩
abbrev S1x7 : Shape := ⟨2, ![1, 7]⟩
abbrev S1 : Shape := ⟨1, ![1]⟩

abbrev nBuf : Space → Nat
  | .hbm => 21
  | .vmem => 0
  | .smem => 0
  | _ => 0

abbrev bufTy : (tb : Table) → Fin (tcTables nBuf tb) → BufTy
  | .hbm, ⟨0, _⟩ => ⟨S6x7, .f32⟩
  | .hbm, ⟨1, _⟩ => ⟨S7, .f32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x7, .f32⟩
  | .hbm, ⟨17, _⟩ => ⟨S7, .f32⟩
  | .hbm, ⟨18, _⟩ => ⟨S1x7, .f32⟩
  | .hbm, ⟨19, _⟩ => ⟨S1, .f32⟩
  | .hbm, ⟨20, _⟩ => ⟨S_, .f32⟩
  | _, _ => ⟨S6x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Proof.Row.lean ====
/-
  What the kernel computes, as a plain function: the dot product of one row of the flattened six by seven matrix with the
  seven weights, added from the left, and the arithmetic of the word addresses the kernel forms from the row's number.
-/
module

public import proofs.«01_k».proof.Defs
public import proofs.«01_k».proof.Proof.Gen.KernelIdeal

@[expose] public section

noncomputable section

namespace Cert.Proof.Row

open Cert.KernelIdeal Idealize.ShloMosaic

variable {F : FTy → Type}

/-- Position `n` of the flattened matrix (taken modulo its length, so that every number names a position). -/
def pos42 (n : ℕ) : S42.Idx := fun a => ⟨n % S42.size a, Nat.mod_lt _ (by fin_cases a; decide)⟩

/-- Position `n` of the weights (taken modulo their length). -/
def pos7 (n : ℕ) : S7.Idx := fun a => ⟨n % S7.size a, Nat.mod_lt _ (by fin_cases a; decide)⟩

/-- Product `j` of the dot product of row `r`. -/
def term [FloatOps F] (a : S42.Idx → F .f32) (t : S7.Idx → F .f32) (r j : ℕ) : F .f32 :=
  Scalar.mulf (a (pos42 (7 * r + j))) (t (pos7 j))

/-- The dot product of row `r` of the flattened matrix `a` with the weights `t`, its seven products added from the left. -/
def rowDot [FloatOps F] (a : S42.Idx → F .f32) (t : S7.Idx → F .f32) (r : ℕ) : F .f32 :=
  Scalar.addf (Scalar.addf (Scalar.addf (Scalar.addf (Scalar.addf (Scalar.addf (term a t r 0) (term a t r 1)) (term a t r 2))
    (term a t r 3)) (term a t r 4)) (term a t r 5)) (term a t r 6)

/-- A row number below six, as a machine word, is one of the six literals. -/
theorem word_of_lt {s : BitVec 32} (h : s.toNat < 6) : s = 0#32 ∨ s = 1#32 ∨ s = 2#32 ∨ s = 3#32 ∨ s = 4#32 ∨ s = 5#32 := by
  simp only [← BitVec.toNat_inj, BitVec.toNat_ofNat, Nat.reducePow, Nat.reduceMod]
  omega

/-- The first word of an existing row lies at seven times the row's number. -/
theorem off1_eq {s : BitVec 32} (h : s.toNat < 6) : k0_off1 s = ![7 * s.toNat] := by
  rcases word_of_lt h with rfl | rfl | rfl | rfl | rfl | rfl <;> rfl

/-- Word `j` of an existing row lies `j` words after its first. -/
theorem off2_eq {s : BitVec 32} (h : s.toNat < 6) (j : Fin 7) : k0_off2 s (BitVec.ofNat 32 j.val) = ![7 * s.toNat + j.val] := by
  rcases word_of_lt h with rfl | rfl | rfl | rfl | rfl | rfl <;> fin_cases j <;> rfl

/-- Every word of an existing row lies inside the flattened matrix. -/
theorem chk_of_lt {s : BitVec 32} (h : s.toNat < 6) : k0_chk1 s := by
  rcases word_of_lt h with rfl | rfl | rfl | rfl | rfl | rfl <;> decide

end Cert.Proof.Row

end
-- ==== Proof.Body.lean ====
/-
  The kernel's body, run once on a device's SparseCore sequencer: three copies into the sequencer's scalar memory, the dot
  product of the chosen row, eight stores, and the copy out; what the result array then holds.
-/
module

public import proofs.«01_k».proof.Defs
public import proofs.«01_k».proof.Proof.Row
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Body

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The kernel has no loop, so it needs no variants. -/
abbrev 𝒱₀ : Variants := Variants.none

/-- The ghost state: the launch handshakes' rounds beside the counters of the transfers. -/
abbrev GH : Type := URounds (GSem nD τ sig) ℕ × Counters

local notation "𝕄" => MT nD τ sig (HIx 1) (Elt F) ℕ GH ℕ

variable [FloatOps F]

/-! The kernel's arrays: the flattened matrix, the weights, the row's number and the result in the device's memory (`…W`), and
  their scratch copies in the sequencer's scalar memory (`…S`). -/

abbrev matW : Memref sig Kind.scScalar Space.hbm S42 .f32 := Memref.whole main_v0_scs
abbrev wtsW : Memref sig Kind.scScalar Space.hbm S7 .f32 := Memref.whole main_arg1_scs
abbrev rowW : Memref sig Kind.scScalar Space.hbm S1 .i32 := Memref.whole main_v1_scs
abbrev outW : Memref sig Kind.scScalar Space.hbm S8 .f32 := Memref.whole main_v2_scs
abbrev matS : Memref sig Kind.scScalar Space.smem S42 .f32 := Memref.whole cc0_scratch0
abbrev wtsS : Memref sig Kind.scScalar Space.smem S7 .f32 := Memref.whole cc0_scratch1
abbrev rowS : Memref sig Kind.scScalar Space.smem S1 .i32 := Memref.whole cc0_scratch2
abbrev outS : Memref sig Kind.scScalar Space.smem S8 .f32 := Memref.whole cc0_scratch3

/-- The kernel's grid coordinates on SparseCore `c`. -/
def coordsS (c : Fin (grid0.bound 0)) : grid0.Coords := fun | 0 => c | ⟨_ + 1, h⟩ => absurd h (Nat.not_lt.2 (Nat.le_add_left _ _))

/-- The sequencer that the kernel runs on. -/
abbrev seqT (d : Dev nD) (h : 0 < grid0.bound 0) : Thread nD τ := S d ((⟨0, h⟩ : Fin (grid0.bound 0)).castLE hcore0)

/-- A word read from the scratch copy of the matrix is the matrix's word at that position. -/
theorem mat_word (d : Dev nD) (h : 0 < grid0.bound 0) (a : Buf (Elt F) ((matW).view.loc (seqT d h))) (f0 : Buf (Elt F) ((matS).view.loc (seqT d h)))
    {off : Fin S42.rank → ℕ} (inb : ∀ k, off k + S1.size k ≤ S42.size k) {n : ℕ} (e : off = ![n]) (i : (Rect.unit off S1.size inb).shape.Idx) :
    View.readAt (Elt F) (matS).view (Rect.unit off S1.size inb).toLoadRect
        (View.write (Elt F) (matS).view f0 (ReadAs.same.apply (View.read (Elt F) (matW).view a)) Finset.univ) i
      = a (pos42 n) := by
  subst e
  have hn : n + 1 ≤ 42 := inb 0
  have hi : (i 0).val < 1 := (i 0).isLt
  refine (congrArg (fun g => View.readAt (Elt F) (matS).view (Rect.unit (s := S42) ![n] S1.size inb).toLoadRect g i)
    (View.write_whole_univ (Val := Elt F) cc0_scratch0 f0 a)).trans ?_
  show a _ = a _
  congr 1; funext k; fin_cases k
  apply Fin.ext
  show n + 1 * (i 0).val = n % 42
  omega

/-- A word read from the scratch copy of the weights is the weight at that position. -/
theorem wts_word (d : Dev nD) (h : 0 < grid0.bound 0) (t : Buf (Elt F) ((wtsW).view.loc (seqT d h))) (f1 : Buf (Elt F) ((wtsS).view.loc (seqT d h)))
    {off : Fin S7.rank → ℕ} (inb : ∀ k, off k + S1.size k ≤ S7.size k) {n : ℕ} (e : off = ![n]) (i : (Rect.unit off S1.size inb).shape.Idx) :
    View.readAt (Elt F) (wtsS).view (Rect.unit off S1.size inb).toLoadRect
        (View.write (Elt F) (wtsS).view f1 (ReadAs.same.apply (View.read (Elt F) (wtsW).view t)) Finset.univ) i
      = t (pos7 n) := by
  subst e
  have hn : n + 1 ≤ 7 := inb 0
  have hi : (i 0).val < 1 := (i 0).isLt
  refine (congrArg (fun g => View.readAt (Elt F) (wtsS).view (Rect.unit (s := S7) ![n] S1.size inb).toLoadRect g i)
    (View.write_whole_univ (Val := Elt F) cc0_scratch1 f1 t)).trans ?_
  show t _ = t _
  congr 1; funext k; fin_cases k
  apply Fin.ext
  show n + 1 * (i 0).val = n % 7
  omega

omit [FloatOps F] in
/-- A one-word store at position `k` of the eight reaches the element at position `k`. -/
theorem store_reaches {k : ℕ} (inb : ∀ j, (![k] : Fin S8.rank → ℕ) j + S1.size j ≤ S8.size j) (y : S8.Idx) (e : (y 0).val = k) :
    y ∈ (Rect.unit (s := S8) ![k] S1.size inb).set := by
  refine ((Rect.unit (s := S8) ![k] S1.size inb).mem_set).mpr fun j => ?_
  fin_cases j
  exact ⟨0, Nat.one_pos, e⟩

/-- The kernel, given its four arrays, its four scratch buffers at anything and its four semaphores at zero, where the row
    number `x` is below six: it ends with the matrix, the weights and the row number as they were, the dot product of row `x` at
    each of the result's eight positions, and the semaphores at zero again. -/
theorem run (d : Dev nD) (h : 0 < grid0.bound 0) (O : CellTallies nD τ sig (HIx 1)) (W : Waits sig (HIx 1))
    (a : Buf (Elt F) ((matW).view.loc (seqT d h))) (t : Buf (Elt F) ((wtsW).view.loc (seqT d h)))
    (s : Buf (Elt F) ((rowW).view.loc (seqT d h))) (o : Buf (Elt F) ((outW).view.loc (seqT d h)))
    (f0 : Buf (Elt F) ((matS).view.loc (seqT d h))) (f1 : Buf (Elt F) ((wtsS).view.loc (seqT d h)))
    (f2 : Buf (Elt F) ((rowS).view.loc (seqT d h))) (f3 : Buf (Elt F) ((outS).view.loc (seqT d h)))
    (x : BitVec 32) (hx : x.toNat < 6) (hs : s = fun _ => x) :
    (iprop(Transfers.MayWaits (seqT d h) (none : HIx 1) O
        ∗ ((matW).view.loc (seqT d h) ↦{fullShare} a) ∗ ((wtsW).view.loc (seqT d h) ↦{fullShare} t)
        ∗ ((rowW).view.loc (seqT d h) ↦{fullShare} s) ∗ ((outW).view.loc (seqT d h) ↦{fullShare} o)
        ∗ ((matS).view.loc (seqT d h) ↦{fullShare} f0) ∗ ((wtsS).view.loc (seqT d h) ↦{fullShare} f1)
        ∗ ((rowS).view.loc (seqT d h) ↦{fullShare} f2) ∗ ((outS).view.loc (seqT d h) ↦{fullShare} f3)
        ∗ semVal (seqT d h, SemLoc.dma cc0_scoped0.sem) 0 ∗ semVal (seqT d h, SemLoc.dma cc0_scoped1.sem) 0
        ∗ semVal (seqT d h, SemLoc.dma cc0_scoped2.sem) 0 ∗ semVal (seqT d h, SemLoc.dma cc0_scoped3.sem) 0
        ∗ owes (seqT d h) O W) : sProp 𝕄)
      ⊢ wp frame (wpE (defs₀ (F := F)) 𝒱₀ (seqT d h) none) Set.univ
          (cc0__row_dot (coordsS ⟨0, h⟩) matW (Memref.isWhole_whole _) wtsW (Memref.isWhole_whole _)
            rowW (Memref.isWhole_whole _) outW (Memref.isWhole_whole _) matS (Memref.isWhole_whole _)
            wtsS (Memref.isWhole_whole _) rowS (Memref.isWhole_whole _) outS (Memref.isWhole_whole _)
            cc0_scoped0 cc0_scoped1 cc0_scoped2 cc0_scoped3)
          fun _ => iprop(((matW).view.loc (seqT d h) ↦{fullShare} a) ∗ ((wtsW).view.loc (seqT d h) ↦{fullShare} t)
            ∗ ((rowW).view.loc (seqT d h) ↦{fullShare} s)
            ∗ ((outW).view.loc (seqT d h) ↦{fullShare} ((fun _ => rowDot a t x.toNat) : Buf (Elt F) ((outW).view.loc (seqT d h))))
            ∗ (∃ f, (matS).view.loc (seqT d h) ↦{fullShare} f) ∗ (∃ f, (wtsS).view.loc (seqT d h) ↦{fullShare} f)
            ∗ (∃ f, (rowS).view.loc (seqT d h) ↦{fullShare} f) ∗ (∃ f, (outS).view.loc (seqT d h) ↦{fullShare} f)
            ∗ semVal (seqT d h, SemLoc.dma cc0_scoped0.sem) 0 ∗ semVal (seqT d h, SemLoc.dma cc0_scoped1.sem) 0
            ∗ semVal (seqT d h, SemLoc.dma cc0_scoped2.sem) 0 ∗ semVal (seqT d h, SemLoc.dma cc0_scoped3.sem) 0
            ∗ ∃ W', ⌜∀ p ∈ W', p ∈ W ∨ p.2 = none⌝ ∗ owes (seqT d h) O W') := by
  rw [cc0__row_dot_eq_skeleton]; unfold cc0__row_dot_skel
  rw [k0_part1_eq_skeleton]; unfold k0_part1_skel
  iintro ⟨Hmw, Ha, Ht, Hs, Ho, H0, H1, H2, H3, Hc0, Hc1, Hc2, Hc3, HO⟩
  sl_exec
  have hr : run.sl.r d h s f2 = x := by
    unfold run.sl.r run.sl.dma0_2
    simp only [Memref.view_whole, View.write_whole_univ]
    show s _ = x
    rw [hs]
  have hchk : k0_chk1 (run.sl.r d h s f2) := hr ▸ chk_of_lt hx
  sl_exec
  sl_step
  have hout : View.write (Elt F) (outW).view o (run.sl.dma30 (F := F) d h a t s f0 f1 f2 f3 hchk) Finset.univ
      = ((fun _ => rowDot a t x.toNat) : Buf (Elt F) ((outW).view.loc (seqT d h))) := by
    refine (View.write_whole_univ (Val := Elt F) main_v2_scs o _).trans ?_
    have o2 (j : Fin 7) := off2_eq (s := run.sl.r d h s f2) (by rw [hr]; exact hx) j
    have o1 := off1_eq (s := run.sl.r d h s f2) (by rw [hr]; exact hx)
    funext y
    unfold run.sl.dma30
    refine View.read_writes_apply_of_pieces _ _ (Val := Elt F) (e := .f32) (fun _ => rowDot a t x.toNat) _ ?_ y ?_
    · unfold run.sl.H3_8
      intro p hp i
      have hv : p.2 i = k0_pay1 (k0_pay2 (run.sl.r_1 d h a s f0 f2 hchk) (run.sl.r_2 d h t f1) (run.sl.r_3 d h a s f0 f2 hchk)
          (run.sl.r_4 d h t f1) (run.sl.r_5 d h a s f0 f2 hchk) (run.sl.r_6 d h t f1) (run.sl.r_7 d h a s f0 f2 hchk)
          (run.sl.r_8 d h t f1) (run.sl.r_9 d h a s f0 f2 hchk) (run.sl.r_10 d h t f1))
          (run.sl.r_11 d h a s f0 f2 hchk) (run.sl.r_12 d h t f1) (run.sl.r_13 d h a s f0 f2 hchk) (run.sl.r_14 d h t f1) := by
        simp only [List.mem_cons, List.not_mem_nil, or_false] at hp
        rcases hp with rfl | rfl | rfl | rfl | rfl | rfl | rfl | rfl <;> rfl
      rw [hv]
      have e1 : run.sl.r_1 d h a s f0 f2 hchk = a (pos42 (7 * x.toNat + 0)) := by rw [← hr]; exact mat_word d h a f0 _ o1 _
      have e2 : run.sl.r_2 d h t f1 = t (pos7 0) := wts_word d h t f1 _ rfl _
      have e3 : run.sl.r_3 d h a s f0 f2 hchk = a (pos42 (7 * x.toNat + 1)) := by rw [← hr]; exact mat_word d h a f0 _ (o2 1) _
      have e4 : run.sl.r_4 d h t f1 = t (pos7 1) := wts_word d h t f1 _ rfl _
      have e5 : run.sl.r_5 d h a s f0 f2 hchk = a (pos42 (7 * x.toNat + 2)) := by rw [← hr]; exact mat_word d h a f0 _ (o2 2) _
      have e6 : run.sl.r_6 d h t f1 = t (pos7 2) := wts_word d h t f1 _ rfl _
      have e7 : run.sl.r_7 d h a s f0 f2 hchk = a (pos42 (7 * x.toNat + 3)) := by rw [← hr]; exact mat_word d h a f0 _ (o2 3) _
      have e8 : run.sl.r_8 d h t f1 = t (pos7 3) := wts_word d h t f1 _ rfl _
      have e9 : run.sl.r_9 d h a s f0 f2 hchk = a (pos42 (7 * x.toNat + 4)) := by rw [← hr]; exact mat_word d h a f0 _ (o2 4) _
      have e10 : run.sl.r_10 d h t f1 = t (pos7 4) := wts_word d h t f1 _ rfl _
      have e11 : run.sl.r_11 d h a s f0 f2 hchk = a (pos42 (7 * x.toNat + 5)) := by rw [← hr]; exact mat_word d h a f0 _ (o2 5) _
      have e12 : run.sl.r_12 d h t f1 = t (pos7 5) := wts_word d h t f1 _ rfl _
      have e13 : run.sl.r_13 d h a s f0 f2 hchk = a (pos42 (7 * x.toNat + 6)) := by rw [← hr]; exact mat_word d h a f0 _ (o2 6) _
      have e14 : run.sl.r_14 d h t f1 = t (pos7 6) := wts_word d h t f1 _ rfl _
      rw [e1, e2, e3, e4, e5, e6, e7, e8, e9, e10, e11, e12, e13, e14]
      rfl
    · unfold run.sl.H3_8
      have hy : (y 0).val < 8 := (y 0).isLt
      rcases (show (y 0).val = 7 ∨ (y 0).val = 6 ∨ (y 0).val = 5 ∨ (y 0).val = 4 ∨ (y 0).val = 3 ∨ (y 0).val = 2 ∨ (y 0).val = 1 ∨ (y 0).val = 0
        by omega) with e | e | e | e | e | e | e | e
      · exact ⟨_, .head _, store_reaches inb_S8_S1_7 y e⟩
      · exact ⟨_, .tail _ (.head _), store_reaches inb_S8_S1_6 y e⟩
      · exact ⟨_, .tail _ (.tail _ (.head _)), store_reaches inb_S8_S1_5 y e⟩
      · exact ⟨_, .tail _ (.tail _ (.tail _ (.head _))), store_reaches inb_S8_S1_4 y e⟩
      · exact ⟨_, .tail _ (.tail _ (.tail _ (.tail _ (.head _)))), store_reaches inb_S8_S1_3 y e⟩
      · exact ⟨_, .tail _ (.tail _ (.tail _ (.tail _ (.tail _ (.head _))))), store_reaches inb_S8_S1_2 y e⟩
      · exact ⟨_, .tail _ (.tail _ (.tail _ (.tail _ (.tail _ (.tail _ (.head _)))))), store_reaches inb_S8_S1_1 y e⟩
      · exact ⟨_, .tail _ (.tail _ (.tail _ (.tail _ (.tail _ (.tail _ (.tail _ (.head _))))))), store_reaches inb_S8_S1_0 y e⟩
  isplitl [Ha]; · iexact Ha
  isplitl [Ht]; · iexact Ht
  isplitl [Hs]; · iexact Hs
  isplitl [Ho]; · rw [← hout]; iexact Ho
  isplitl [H0]; · iexists _; iexact H0
  isplitl [H1]; · iexists _; iexact H1
  isplitl [H2]; · iexists _; iexact H2
  isplitl [H3]; · iexists _; iexact H3
  isplitl [Hc0]; · iexact Hc0
  isplitl [Hc1]; · iexact Hc1
  isplitl [Hc2]; · iexact Hc2
  isplitl [Hc3]; · iexact Hc3
  iexists _; isplitr; rotate_left; · iexact HO
  ipureintro; intro p hp
  simp only [Finset.mem_insert] at hp
  rcases hp with rfl | rfl | rfl | rfl | hp
  · exact .inr rfl
  · exact .inr rfl
  · exact .inr rfl
  · exact .inr rfl
  · exact .inl hp

end Cert.Proof.Body

end
-- ==== Proof.Launch.lean ====
/-
  The launch of the kernel: what the call hands the SparseCore's sequencer and takes back, and the body's run
  (Proof/Body.lean) between the two.
-/
module

public import proofs.«01_k».proof.Proof.Body

@[expose] public section

noncomputable section

namespace Cert.Proof.Launch

open Cert.KernelIdeal Cert.KernelIdeal.Gen Cert.Proof.Row Cert.Proof.Body

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! The program's labels, its one SparseCore call, its body table, and the variants. -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch's own semaphores are apart from one another and outside every kernel's scope, and no buffer is shared by
    the vector subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ GH ℕ

/-- The handshakes' rounds are the left factor of the ghost state. -/
abbrev EH : Emb (URounds (GSem nD τ sig) ℕ) (MT nD τ sig (HIx 1) (Elt F) ℕ GH ℕ) := embL

/-! ## The arrays and what the call exchanges -/

variable (m : (ℓ : Loc nD τ sig) → Buf (Elt F) ℓ) (ρ : Dev nD → PrngReg)

/-! The eight arrays of a device: the three arguments, the flattened matrix, the row's number as an array of one, the kernel's
  result, its first element as an array of one, and the program's result. -/

abbrev arg0Loc (d : Dev nD) : Loc nD τ sig := (SparseCore.T d).loc main_arg0
abbrev arg1Loc (d : Dev nD) : Loc nD τ sig := (SparseCore.T d).loc main_arg1
abbrev arg2Loc (d : Dev nD) : Loc nD τ sig := (SparseCore.T d).loc main_arg2
abbrev matLoc (d : Dev nD) : Loc nD τ sig := (SparseCore.T d).loc main_v0
abbrev rowLoc (d : Dev nD) : Loc nD τ sig := (SparseCore.T d).loc main_v1
abbrev outLoc (d : Dev nD) : Loc nD τ sig := (SparseCore.T d).loc main_v2
abbrev oneLoc (d : Dev nD) : Loc nD τ sig := (SparseCore.T d).loc main_v3
abbrev resLoc (d : Dev nD) : Loc nD τ sig := (SparseCore.T d).loc main_v4

/-- The flattened matrix, as the program's first reshape leaves it. -/
def mat (d : Dev nD) : Buf (Elt F) (matLoc d) := shapeCast S42 (m (arg0Loc d)) shapeCasts_S6x7_S42

/-- The row number the program is called with. -/
def word (d : Dev nD) : BitVec 32 := m (arg2Loc d) fun a => a.elim0

variable [FloatOps F]

/-- The number the program returns: the chosen row's dot product with the weights. -/
def value (d : Dev nD) : F .f32 := rowDot (mat m d) (m (arg1Loc d)) (word m d).toNat

/-- The kernel's result array: the value at each of its eight positions. -/
def outv (d : Dev nD) : Buf (Elt F) (outLoc d) := fun _ => value m d

/-- The operands the call hands over, at their contents, beside the result array at `f`. -/
def ops (d : Dev nD) (f : Buf (Elt F) (outLoc d)) : sProp 𝕄 :=
  iprop((matLoc d ↦{fullShare} mat m d) ∗ (arg1Loc d ↦{fullShare} m (arg1Loc d))
    ∗ (rowLoc d ↦{fullShare} ((fun _ => word m d) : Buf (Elt F) (rowLoc d))) ∗ (outLoc d ↦{fullShare} f))

/-- What the call exchanges may be kept by the launch's invariants. -/
instance ops_storable (d : Dev nD) (f : Buf (Elt F) (outLoc d)) : BI.Storable (upEmb : UEmb _ 𝕄) (ops m d f) := by
  unfold ops; infer_instance

/-- The call hands the sequencer the operands and the result array at anything, and takes them back with the result array at
    the value. -/
def P : (K (F := F)).Pay (nD := nD) (Val := Elt F) (Name := ℕ) (U := GH) where
  st := fun _ d _ => iprop(∃ f, ops m d f)
  dn := fun _ d _ => ops m d (outv m d)
  go := fun _ _ _ _ => iprop(emp)
  td := fun _ _ _ _ => iprop(emp)
  x := fun _ _ => iprop(emp)

/-- The same, of the whole record. -/
instance P_storable : (P (F := F) m).IsStorable where
  st _ d c := by unfold P; infer_instance
  dn _ d c := by unfold P; infer_instance
  go _ _ _ _ := by unfold P; infer_instance
  td _ _ _ _ := by unfold P; infer_instance

/-! ## The kernel's body from what the launch gives the sequencer -/

section Seq

variable (d : Dev nD) (c : Fin τ.nSC)

/-! The semaphores of the kernel's four copies. -/

abbrev cell0 : GSem nD τ sig := (S d c, .dma cc0_scoped0.sem)
abbrev cell1 : GSem nD τ sig := (S d c, .dma cc0_scoped1.sem)
abbrev cell2 : GSem nD τ sig := (S d c, .dma cc0_scoped2.sem)
abbrev cell3 : GSem nD τ sig := (S d c, .dma cc0_scoped3.sem)

/-- The sequencer's semaphores other than the kernel's four. -/
def otherCells : Finset (GSem nD τ sig) :=
  ((((ownCells (S d c)).erase (cell0 d c)).erase (cell1 d c)).erase (cell2 d c)).erase (cell3 d c)

omit [FloatOps F] in
/-- The kernel's four semaphores are among the sequencer's own. -/
theorem own_cells :
    (ownSems0 (S d c) : sProp 𝕄)
      = iprop(semVal (cell0 d c) 0 ∗ semVal (cell1 d c) 0 ∗ semVal (cell2 d c) 0 ∗ semVal (cell3 d c) 0
          ∗ bigSep (otherCells d c) fun g => semVal g 0) := by
  have own (k : DmaSem sig) (hk : (SemLoc.dma k : SemLoc sig).isScoped .scScalar = true) :
      ((S d c, SemLoc.dma k) : GSem nD τ sig) ∈ ownCells (S d c) := mem_ownCells.mpr ⟨rfl, hk⟩
  have ne {k l : DmaSem sig} (h : k ≠ l) : ((S d c, SemLoc.dma k) : GSem nD τ sig) ≠ (S d c, SemLoc.dma l) := fun e =>
    h (by cases e; rfl)
  unfold SparseCore.Cfg.ownSems0 otherCells
  rw [SparseCore.bigSep_erase' (i := cell0 d c) (own cc0_scoped0.sem (by decide)),
    SparseCore.bigSep_erase' (i := cell1 d c) (Finset.mem_erase.mpr ⟨ne (by decide), own cc0_scoped1.sem (by decide)⟩),
    SparseCore.bigSep_erase' (i := cell2 d c) (Finset.mem_erase.mpr ⟨ne (by decide), Finset.mem_erase.mpr ⟨ne (by decide), own cc0_scoped2.sem (by decide)⟩⟩),
    SparseCore.bigSep_erase' (i := cell3 d c) (Finset.mem_erase.mpr ⟨ne (by decide), Finset.mem_erase.mpr ⟨ne (by decide),
      Finset.mem_erase.mpr ⟨ne (by decide), own cc0_scoped3.sem (by decide)⟩⟩⟩)]

/-- A sequencer's buffer, among its device's. -/
abbrev bufRef (b : Ref sig .scScalar) : DevRef τ sig := (Proc.scScalar c).devRef b

/-- The sequencer's buffers other than the kernel's four. -/
def otherRefs : Finset (DevRef τ sig) :=
  ((((ownRefs (τ := τ) (.scScalar c)).erase (bufRef c cc0_scratch0)).erase (bufRef c cc0_scratch1)).erase (bufRef c cc0_scratch2)).erase (bufRef c cc0_scratch3)

omit [FloatOps F] in
/-- The kernel's four scratch buffers are among the sequencer's own. -/
theorem own_bufs :
    (ownBufs (S d c) : sProp 𝕄)
      = iprop((∃ f, (matS).view.loc (S d c) ↦{fullShare} f) ∗ (∃ f, (wtsS).view.loc (S d c) ↦{fullShare} f)
          ∗ (∃ f, (rowS).view.loc (S d c) ↦{fullShare} f) ∗ (∃ f, (outS).view.loc (S d c) ↦{fullShare} f)
          ∗ bigSep (otherRefs c) fun b => iprop(∃ f, ((d, b) : Loc nD τ sig) ↦{fullShare} f)) := by
  have own (b : Ref sig .scScalar) (hb : (bufRef c b).owner.home = .scScalar c) : bufRef c b ∈ ownRefs (τ := τ) (.scScalar c) :=
    mem_ownRefs.mpr hb
  have ne {a b : Ref sig .scScalar} (h : a ≠ b) : bufRef c a ≠ bufRef c b := fun e => h (Proc.devRef_injective _ e)
  unfold SparseCore.Cfg.ownBufs otherRefs
  rw [SparseCore.bigSep_erase' (i := bufRef c cc0_scratch0) (own cc0_scratch0 rfl),
    SparseCore.bigSep_erase' (i := bufRef c cc0_scratch1) (Finset.mem_erase.mpr ⟨ne (by decide), own cc0_scratch1 rfl⟩),
    SparseCore.bigSep_erase' (i := bufRef c cc0_scratch2) (Finset.mem_erase.mpr ⟨ne (by decide), Finset.mem_erase.mpr ⟨ne (by decide), own cc0_scratch2 rfl⟩⟩),
    SparseCore.bigSep_erase' (i := bufRef c cc0_scratch3) (Finset.mem_erase.mpr ⟨ne (by decide), Finset.mem_erase.mpr ⟨ne (by decide),
      Finset.mem_erase.mpr ⟨ne (by decide), own cc0_scratch3 rfl⟩⟩⟩)]

/-- The operands as the sequencer's own views address them are the program's arrays. -/
theorem ops_eq (f : Buf (Elt F) (outLoc d)) :
    ops m d f
      = (iprop(((matW).view.loc (S d c) ↦{fullShare} mat m d) ∗ ((wtsW).view.loc (S d c) ↦{fullShare} m (arg1Loc d))
          ∗ ((rowW).view.loc (S d c) ↦{fullShare} ((fun _ => word m d) : Buf (Elt F) ((rowW).view.loc (S d c))))
          ∗ ((outW).view.loc (S d c) ↦{fullShare} f)) : sProp 𝕄) := rfl

/-- The kernel on its sequencer, from what the launch gives it to what the launch takes back. -/
theorem seq_body (hw : (word m d).toNat < 6) (h : 0 < grid0.bound 0) (O : CellTallies nD τ sig (HIx 1)) (W : Waits sig (HIx 1)) (hO : ∀ g, O g none = 0) :
    iprop(levAts (K (F := F)).L (K (F := F)).lev ∗ emp ∗ (∃ f, ops m d f)
        ∗ scopedBufs (seqT d h) ∗ scopedSems0 (seqT d h) ∗ owes (seqT d h) O W)
      ⊢ wp frame (wpE (defs₀ (F := F)) 𝒱₀ (seqT d h) none) Set.univ
          (cc0__row_dot (coordsS ⟨0, h⟩) matW (Memref.isWhole_whole _) wtsW (Memref.isWhole_whole _)
            rowW (Memref.isWhole_whole _) outW (Memref.isWhole_whole _) matS (Memref.isWhole_whole _)
            wtsS (Memref.isWhole_whole _) rowS (Memref.isWhole_whole _) outS (Memref.isWhole_whole _)
            cc0_scoped0 cc0_scoped1 cc0_scoped2 cc0_scoped3)
          fun _ => iprop(ops m d (outv m d) ∗ scopedBufs (seqT d h) ∗ scopedSems0 (seqT d h)
            ∗ ∃ W', ⌜∀ p ∈ W', p ∈ W ∨ p.2 = none ∨ p.2 = some (0 : Fin 1)⌝ ∗ owes (seqT d h) O W') := by
  rw [(K (F := F)).scopedBufs_S facts d _, SparseCore.Cfg.scopedSems0_S (Val := Elt F) d _, own_cells, own_bufs]
  simp only [ops_eq m d (((⟨0, h⟩ : Fin (grid0.bound 0))).castLE hcore0)]
  iintro ⟨#Hlv, -, ⟨%o, Ha, Ht, Hs, Ho⟩, ⟨⟨⟨%f0, H0⟩, ⟨%f1, H1⟩, ⟨%f2, H2⟩, ⟨%f3, H3⟩, Hbufs⟩, Hsub⟩, ⟨⟨Hc0, Hc1, Hc2, Hc3, Hcells⟩, Hsubc⟩, HO⟩
  ihave Hmw := ((K (F := F)).mayWaits_none (thr := seqT d h) hO) $$ Hlv
  iapply (wp_wand_r Idealize.ShloMosaic.frame (wpE (defs₀ (F := F)) 𝒱₀ (seqT d h) none) Set.univ)
  isplitl [Ha Ht Hs Ho H0 H1 H2 H3 Hc0 Hc1 Hc2 Hc3 HO]
  · iapply (Body.run d h O W _ _ _ _ _ _ _ _ (word m d) hw rfl)
    isplitr; · iexact Hmw
    isplitl [Ha]; · iexact Ha
    isplitl [Ht]; · iexact Ht
    isplitl [Hs]; · iexact Hs
    isplitl [Ho]; · iexact Ho
    isplitl [H0]; · iexact H0
    isplitl [H1]; · iexact H1
    isplitl [H2]; · iexact H2
    isplitl [H3]; · iexact H3
    isplitl [Hc0]; · iexact Hc0
    isplitl [Hc1]; · iexact Hc1
    isplitl [Hc2]; · iexact Hc2
    isplitl [Hc3]; · iexact Hc3
    iexact HO
  iintro %_ ⟨Ha, Ht, Hs, Ho, H0, H1, H2, H3, Hc0, Hc1, Hc2, Hc3, %W', %hW', HO⟩
  isplitl [Ha Ht Hs Ho]
  · isplitl [Ha]; · iexact Ha
    isplitl [Ht]; · iexact Ht
    isplitl [Hs]; · iexact Hs
    iexact Ho
  isplitl [H0 H1 H2 H3 Hbufs Hsub]
  · isplitr [Hsub]
    · isplitl [H0]; · iexact H0
      isplitl [H1]; · iexact H1
      isplitl [H2]; · iexact H2
      isplitl [H3]; · iexact H3
      iexact Hbufs
    · iexact Hsub
  isplitl [Hc0 Hc1 Hc2 Hc3 Hcells Hsubc]
  · isplitr [Hsubc]
    · isplitl [Hc0]; · iexact Hc0
      isplitl [Hc1]; · iexact Hc1
      isplitl [Hc2]; · iexact Hc2
      isplitl [Hc3]; · iexact Hc3
      iexact Hcells
    · iexact Hsubc
  iexists W'; isplitr
  · ipureintro; exact fun p hp => (hW' p hp).imp_right Or.inl
  · iexact HO

end Seq

/-! ## The launch theorem's obligation -/

/-- The body table's entry at a sequencer is the kernel. -/
theorem defs₀_scalar (c : Fin τ.nSC) :
    defs₀ (F := F) (.scScalar c) 0 ()
      = SparseCore.onCore hcore0 (fun c => cc0__row_dot (coordsS c) matW (Memref.isWhole_whole _) wtsW (Memref.isWhole_whole _)
            rowW (Memref.isWhole_whole _) outW (Memref.isWhole_whole _) matS (Memref.isWhole_whole _)
            wtsS (Memref.isWhole_whole _) rowS (Memref.isWhole_whole _) outS (Memref.isWhole_whole _)
            cc0_scoped0 cc0_scoped1 cc0_scoped2 cc0_scoped3) ⟨⟩ c := rfl

/-- The one call's sequencer runs the kernel, given that the row exists on every device. -/
theorem scalarObl (hw : ∀ d, (word m d).toNat < 6) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact seq_body m d (hw d) h O W hO

/-! ## The launch element: the handshakes' rounds -/

/-- The handshakes' rounds, and no counters. -/
def u₀ : GH := (initOf (K (F := F)).hsCells (K (F := F)).hsToks, 1)

omit [FloatOps F] in
/-- Nothing, any number of times, is nothing. -/
theorem nothing {I : Type} (s : Finset I) : (bigSep s fun _ => iprop(emp)) = (iprop(emp) : sProp 𝕄) := bigSep_emp_const s

/-- The launch's ghost state is the handshakes' rounds; the kernel's own proof is dealt nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  simp only [nothing]
  iempintro

end Cert.Proof.Launch

end
-- ==== Proof.Main.lean ====
/-
  The whole program's run: the TensorCore's two reshapes, the SparseCore call (Proof/Launch.lean), and the first of its eight
  numbers taken out; over any float values, with the result and the counters.
-/
module

public import proofs.«01_k».proof.Proof.Launch

@[expose] public section

noncomputable section

namespace Cert.Proof.Main

open Cert.KernelIdeal Cert.KernelIdeal.Gen Cert.Proof.Row Cert.Proof.Body Cert.Proof.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)
open Idealize.ShloMosaic.Tactic

variable {F : FTy → Type}

local notation "𝕄" => MT nD τ sig (HIx 1) (Elt F) ℕ GH ℕ

variable (m : (ℓ : Loc nD τ sig) → Buf (Elt F) ℓ) (ρ : Dev nD → PrngReg)

/-! ## The TensorCore's eight arrays -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev mat' : DevRef τ sig := Proc.devRef .tc (main_v0 : Ref sig .tc)
abbrev row' : DevRef τ sig := Proc.devRef .tc (main_v1 : Ref sig .tc)
abbrev out' : DevRef τ sig := Proc.devRef .tc (main_v2 : Ref sig .tc)
abbrev one' : DevRef τ sig := Proc.devRef .tc (main_v3 : Ref sig .tc)
abbrev res' : DevRef τ sig := Proc.devRef .tc (main_v4 : Ref sig .tc)

/-! The program's four host operations. -/

abbrev opMat : HloOp τ sig (Elt F) := StableHlo.reshape main_arg0 main_v0 (rfl : (.f32 : EltTy) = .f32) shapeCasts_S6x7_S42
abbrev opRow : HloOp τ sig (Elt F) := StableHlo.reshape main_arg2 main_v1 (rfl : (.i32 : EltTy) = .i32) shapeCasts_S_S1
abbrev opOne : HloOp τ sig (Elt F) :=
  StableHlo.unary main_v2 main_v3 ((extractStridedSlice S1 ![0] · slices_S8_S1_0) : (⟨S8, .f32⟩ : BufTy).Contents (Elt F) → (⟨S1, .f32⟩ : BufTy).Contents (Elt F))
abbrev opRes : HloOp τ sig (Elt F) := StableHlo.reshape main_v3 main_v4 (rfl : (.f32 : EltTy) = .f32) shapeCasts_S1_S_

/-- The eight arrays. -/
abbrev arrays : Finset (DevRef τ sig) := {mat', arg1', row', out', arg0', arg2', one', res'}

/-- The eight arrays held whole at a valuation, one by one. -/
theorem held_arrays (d : Dev nD) (W : Valuation τ sig (Elt F)) :
    (held (T d) arrays W : sProp 𝕄)
      = iprop((matLoc d ↦{fullShare} W mat') ∗ (arg1Loc d ↦{fullShare} W arg1') ∗ (rowLoc d ↦{fullShare} W row') ∗ (outLoc d ↦{fullShare} W out')
          ∗ (arg0Loc d ↦{fullShare} W arg0') ∗ (arg2Loc d ↦{fullShare} W arg2') ∗ (oneLoc d ↦{fullShare} W one') ∗ (resLoc d ↦{fullShare} W res')) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The arrays' contents at the launch, -/
def V0 (d : Dev nD) : Valuation τ sig (Elt F) := fun b => m (d, b)
/-- before the call, -/
def V2 (d : Dev nD) : Valuation τ sig (Elt F) := (opRow (F := F)).result ((opMat (F := F)).result (V0 m d))

/-- What the launch gives the TensorCore is the eight arrays at their launch contents. -/
theorem unscoped_held (d : Dev nD) : (unscopedBufs d (fun b => m ((SparseCore.T d).loc b)) : sProp 𝕄) = held (T d) arrays (V0 m d) := by
  rw [held_arrays]
  unfold unscopedBufs
  rw [show (Finset.univ.filter fun b : Ref sig .tc => ¬ b.isScoped)
      = {main_v0, main_arg1, main_v1, main_v2, main_arg0, main_arg2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- An array neither reshape writes is as it was. -/
theorem V2_of_ne (d : Dev nD) {b : DevRef τ sig} (h0 : b ∉ ({mat'} : Finset (DevRef τ sig))) (h1 : b ∉ ({row'} : Finset (DevRef τ sig))) :
    V2 m d b = m (d, b) := by
  unfold V2
  rw [(opRow (F := F)).result_of_not_mem _ h1, (opMat (F := F)).result_of_not_mem _ h0]
  rfl

/-- Before the call the flattened matrix is in place, -/
theorem V2_mat (d : Dev nD) : V2 m d mat' = mat m d := by
  unfold V2
  rw [(opRow (F := F)).result_of_not_mem _ (show mat' ∉ ({row'} : Finset (DevRef τ sig)) by decide)]
  exact StableHlo.reshape_result' _ _ _ _ _

/-- and the row's number. -/
theorem V2_row (d : Dev nD) : V2 m d row' = ((fun _ => word m d) : Buf (Elt F) (rowLoc d)) := by
  unfold V2
  refine (StableHlo.reshape_result' _ _ _ _ _).trans (funext fun i => ?_)
  show (opMat (F := F)).result (V0 m d) arg2' _ = _
  rw [(opMat (F := F)).result_of_not_mem _ (show arg2' ∉ ({mat'} : Finset (DevRef τ sig)) by decide)]
  exact congrArg (m (arg2Loc d)) (funext fun a => a.elim0)

variable [FloatOps F]

/-- after the call, -/
def V3 (d : Dev nD) : Valuation τ sig (Elt F) := Function.update (V2 m d) out' (outv m d)
/-- and when the program ends. -/
def V5 (d : Dev nD) : Valuation τ sig (Elt F) := (opRes (F := F)).result ((opOne (F := F)).result (V3 m d))

/-- An array that nothing after the launch writes ends as it began. -/
theorem V5_of_ne (d : Dev nD) {b : DevRef τ sig} (h : b ∉ arrays \ ({arg0', arg1', arg2'} : Finset (DevRef τ sig))) : V5 m d b = m (d, b) := by
  have ne {c : DevRef τ sig} (hc : c ∈ arrays \ ({arg0', arg1', arg2'} : Finset (DevRef τ sig))) : b ∉ ({c} : Finset (DevRef τ sig)) :=
    fun e => h (Finset.mem_singleton.mp e ▸ hc)
  unfold V5
  rw [(opRes (F := F)).result_of_not_mem _ (ne (c := res') (by decide)), (opOne (F := F)).result_of_not_mem _ (ne (c := one') (by decide))]
  unfold V3
  rw [Function.update_of_ne (fun e => ne (c := out') (by decide) (Finset.mem_singleton.mpr e)),
    V2_of_ne m d (ne (c := mat') (by decide)) (ne (c := row') (by decide))]

/-- The program's result is the value. -/
theorem V5_res (d : Dev nD) : V5 m d res' = ((fun _ => value m d) : Buf (Elt F) (resLoc d)) := by
  unfold V5
  refine (StableHlo.reshape_result' _ _ _ _ _).trans (funext fun i => ?_)
  have e : (opOne (F := F)).result (V3 m d) one' = ((fun _ => value m d) : Buf (Elt F) (oneLoc d)) := by
    refine (StableHlo.unary_result' _ _ _ _).trans ?_
    rw [show V3 m d out' = outv m d from Function.update_self _ _ _]
    rfl
  show (opOne (F := F)).result (V3 m d) one' _ = _
  rw [e]

/-! ## The TensorCore's program -/

/-- What the program leaves the claim: its three arguments as they were, its result at the value. -/
abbrev FIN (d : Dev nD) : sProp 𝕄 :=
  iprop((arg0Loc d ↦{fullShare} m (arg0Loc d)) ∗ (arg1Loc d ↦{fullShare} m (arg1Loc d)) ∗ (arg2Loc d ↦{fullShare} m (arg2Loc d))
    ∗ (resLoc d ↦{fullShare} ((fun _ => value m d) : Buf (Elt F) (resLoc d))))

/-- The call starts from the operands, the result array at anything. -/
theorem st_eq (d : Dev nD) : (bigSep Finset.univ fun c : Fin ((K (F := F)).nCore 0) => (P m).st 0 d c) = iprop(∃ f, ops m d f) := by
  show (bigSep (Finset.univ : Finset (Fin 1)) fun _ => iprop(∃ f, ops m d f)) = _
  rw [show (Finset.univ : Finset (Fin 1)) = {0} by decide, bigSep_singleton]
/-- The call ends with the operands, the result array at the value. -/
theorem dn_eq (d : Dev nD) : (bigSep Finset.univ fun c : Fin ((K (F := F)).nCore 0) => (P m).dn 0 d c) = ops m d (outv m d) := by
  show (bigSep (Finset.univ : Finset (Fin 1)) fun _ => ops m d (outv m d)) = _
  rw [show (Finset.univ : Finset (Fin 1)) = {0} by decide, bigSep_singleton]

/-- The arrays before the call: the call's operands, and the four the call does not see. -/
theorem before_call (d : Dev nD) :
    (held (T d) arrays ((opRow (F := F)).result ((opMat (F := F)).result (V0 m d))) : sProp 𝕄)
      ⊢ iprop((∃ f, ops m d f) ∗ (arg0Loc d ↦{fullShare} V2 m d arg0') ∗ (arg2Loc d ↦{fullShare} V2 m d arg2')
          ∗ (oneLoc d ↦{fullShare} V2 m d one') ∗ (resLoc d ↦{fullShare} V2 m d res')) := by
  show held (T d) arrays (V2 m d) ⊢ _
  rw [held_arrays, V2_mat, V2_row, V2_of_ne m d (b := arg1') (by decide) (by decide)]
  unfold ops
  iintro ⟨Ha, Ht, Hs, Ho, H0, H2, H3, H4⟩
  isplitl [Ha Ht Hs Ho]
  · iexists _
    isplitl [Ha]; · iexact Ha
    isplitl [Ht]; · iexact Ht
    isplitl [Hs]; · iexact Hs
    iexact Ho
  isplitl [H0]; · iexact H0
  isplitl [H2]; · iexact H2
  isplitl [H3]; · iexact H3
  iexact H4

/-- The arrays after the call, gathered again. -/
theorem after_call (d : Dev nD) :
    iprop(ops m d (outv m d) ∗ (arg0Loc d ↦{fullShare} V2 m d arg0') ∗ (arg2Loc d ↦{fullShare} V2 m d arg2')
        ∗ (oneLoc d ↦{fullShare} V2 m d one') ∗ (resLoc d ↦{fullShare} V2 m d res'))
      ⊢ (held (T d) arrays (V3 m d) : sProp 𝕄) := by
  have e {b : DevRef τ sig} (h : b ≠ out') : V3 m d b = V2 m d b := Function.update_of_ne h _ _
  rw [held_arrays, e (b := mat') (by decide), e (b := arg1') (by decide), e (b := row') (by decide), e (b := arg0') (by decide),
    e (b := arg2') (by decide), e (b := one') (by decide), e (b := res') (by decide), V2_mat, V2_row, V2_of_ne m d (b := arg1') (by decide) (by decide),
    show V3 m d out' = outv m d from Function.update_self _ _ _]
  unfold ops
  iintro ⟨⟨Ha, Ht, Hs, Ho⟩, H0, H2, H3, H4⟩
  isplitl [Ha]; · iexact Ha
  isplitl [Ht]; · iexact Ht
  isplitl [Hs]; · iexact Hs
  isplitl [Ho]; · iexact Ho
  isplitl [H0]; · iexact H0
  isplitl [H2]; · iexact H2
  isplitl [H3]; · iexact H3
  iexact H4

/-- The arrays at the end hold what the claim reads. -/
theorem at_end (d : Dev nD) : (held (T d) arrays ((opRes (F := F)).result ((opOne (F := F)).result (V3 m d))) : sProp 𝕄) ⊢ FIN m d := by
  show held (T d) arrays (V5 m d) ⊢ _
  rw [held_arrays, V5_res, V5_of_ne m d (b := arg0') (by decide), V5_of_ne m d (b := arg1') (by decide), V5_of_ne m d (b := arg2') (by decide)]
  iintro ⟨-, H1, -, -, H0, H2, -, H4⟩
  isplitl [H0]; · iexact H0
  isplitl [H1]; · iexact H1
  isplitl [H2]; · iexact H2
  iexact H4

/-! Each host operation touches the eight arrays only. -/

theorem subMat : (opMat (F := F)).bufs ⊆ arrays := show ({arg0', mat'} : Finset (DevRef τ sig)) ⊆ arrays by decide
theorem subRow : (opRow (F := F)).bufs ⊆ arrays := show ({arg2', row'} : Finset (DevRef τ sig)) ⊆ arrays by decide
theorem subOne : (opOne (F := F)).bufs ⊆ arrays := show ({out', one'} : Finset (DevRef τ sig)) ⊆ arrays by decide
theorem subRes : (opRes (F := F)).bufs ⊆ arrays := show ({one', res'} : Finset (DevRef τ sig)) ⊆ arrays by decide

/-- The program on a device's TensorCore: two reshapes, the call, the first of the eight numbers taken out. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opMat) (S := arrays) subMat (V := V0 m d)) $$ [Hb Hheld]
  · isplitl [Hb] <;> iassumption
  iintro ⟨Hb, Hheld⟩
  rw [wp_ret]; imodintro
  iapply (wp_hlo_within 𝒱 (SparseCore.T d) none Set.univ (op := opRow) (S := arrays) subRow (V := (opMat (F := F)).result (V0 m d))) $$ [Hb Hheld]
  · isplitl [Hb] <;> iassumption
  iintro ⟨Hb, Hheld⟩
  rw [wp_ret]; imodintro
  ihave Hh := (before_call m d) $$ Hheld
  icases Hh with ⟨Hops, H0, H2, H3, H4⟩
  iapply ((K (F := F)).wp_run (D (F := F)) 𝒱 (EH := EH) (P := P m) κ d 0) $$ [Hst Hops Hb H0 H2 H3 H4 Hts]
  isplitr; · iexact Hctx
  isplitl [Hst]; · iexact Hst
  isplitl [Hops]; · rw [st_eq]; iexact Hops
  iintro ⟨Hst, Hdn⟩
  ihave Hdn' := (Entails.of_eq (dn_eq m d)) $$ Hdn
  ihave Hheld := (after_call m d) $$ [Hdn' H0 H2 H3 H4]
  · isplitl [Hdn']; · iexact Hdn'
    isplitl [H0]; · iexact H0
    isplitl [H2]; · iexact H2
    isplitl [H3]; · iexact H3
    iexact H4
  iapply (wp_hlo_within 𝒱 (SparseCore.T d) none Set.univ (op := opOne) (S := arrays) subOne (V := V3 m d)) $$ [Hb Hheld]
  · isplitl [Hb] <;> iassumption
  iintro ⟨Hb, Hheld⟩
  rw [wp_ret]; imodintro
  iapply (wp_hlo_within 𝒱 (SparseCore.T d) none Set.univ (op := opRes) (S := arrays) subRes (V := (opOne (F := F)).result (V3 m d))) $$ [Hb Hheld]
  · isplitl [Hb] <;> iassumption
  iintro ⟨Hb, Hheld⟩
  rw [wp_ret]; imodintro; imodintro
  isplitl [Hst]; · iexact Hst
  isplitl [Hheld]; · iapply (at_end m d); iexact Hheld
  isplitl [Hb] <;> iassumption

/-- What the claim reads of a device's final memory. -/
def Final (d : Dev nD) (s' : Phys nD τ sig (Elt F)) : Prop :=
  s'.mem.mem (arg0Loc d) = m (arg0Loc d) ∧ s'.mem.mem (arg1Loc d) = m (arg1Loc d) ∧ s'.mem.mem (arg2Loc d) = m (arg2Loc d)
    ∧ s'.mem.mem (resLoc d) = ((fun _ => value m d) : Buf (Elt F) (resLoc d))

omit [FloatOps F] in
/-- An array held whole at `f` is `f` in the memory. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What the program leaves the claim, read in the final memory. -/
theorem hfin (d : Dev nD) (s' : Phys nD τ sig (Elt F)) : iprop(FIN m d ∗ SI s') ⊢ (⌜Final m d s'⌝ : sProp 𝕄) := fun x hx =>
  have part {A : sProp 𝕄} (h : FIN m d ⊢ A) : iprop(A ∗ SI s') x := (sep_mono_left h) x hx
  ⟨read_whole _ _ s' x (part sep_elim_left), read_whole _ _ s' x (part (sep_elim_right.trans sep_elim_left)),
    read_whole _ _ s' x (part (sep_elim_right.trans (sep_elim_right.trans sep_elim_left))),
    read_whole _ _ s' x (part (sep_elim_right.trans (sep_elim_right.trans sep_elim_right)))⟩

/-! ## The program's run -/

/-- After every run: on every device the arguments are as they were and the result is the chosen row's dot product with the
    weights; every semaphore's counter is back at zero. -/
def Post : PUnit × MemSt nD τ sig (Elt F) → Prop := fun r =>
  (∀ d : Dev nD, r.2.mem (arg0Loc d) = m (arg0Loc d) ∧ r.2.mem (arg1Loc d) = m (arg1Loc d) ∧ r.2.mem (arg2Loc d) = m (arg2Loc d)
    ∧ r.2.mem (resLoc d) = ((fun _ => value m d) : Buf (Elt F) (resLoc d))) ∧ r.2.sem = fun _ => 0

/-- Every weakly fair execution of the program's threads, from a memory in which the row exists on every device, ends and
    ends so. -/
theorem run_main [∀ e, Nonempty (Elt F e)] (hw : ∀ d, (word m d).toNat < 6) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q _ => match q with | 0 => scalarObl m hw)
    (fun q hq => match q with | 0 => nomatch hq)
    (fun q hq => match q with | 0 => nomatch hq)
    m ρ main (fun _ => iprop(emp)) (FIN m) (u₀ (F := F)) (sep_elim_left.trans (hu₀ m)) (hmain m ρ) (Final m) (hfin m) (Post m) (fun _ h hz => ⟨h, hz⟩)

end Cert.Proof.Main

end
-- ==== Proof.Reference.lean ====
/-
  What the reference computes: the row it slices out is the chosen one, so that its result over the extended reals is the
  sum over the seven columns of the row's entry times the column's weight; and what the precondition says of the row's number.
-/
module

public import proofs.«01_k».proof.Defs
public import proofs.«01_k».proof.Proof.Gen.ReferenceIdeal
public import proofs.«01_k».proof.Proof.Gen.Pre_row_exists
public import Idealize.ShloMosaic.PureOps.Ideal.Laws
public import Idealize.ShloMosaic.Lib.DynamicIndex
public import Idealize.ShloMosaic.Lib.Pointwise.Contract

@[expose] public section

noncomputable section

namespace Cert.Proof.Reference

open Cert.ReferenceIdeal Cert.ReferenceIdeal.Gen Idealize.ShloMosaic

/-- The only index of a scalar. -/
def pos0 : S_.Idx := fun a => a.elim0

/-- The precondition, as a fact about the row's number: read without a sign it is below six. -/
theorem row_lt {F : FTy → Type} [FloatOps F] {a : FVec F S6x7 .f32} {t : FVec F S7 .f32} {x : IVec S_ 32}
    (h : Cert.Pre_row_exists.fn a t x = fun _ => 1#1) : (x pos0).toNat < 6 := by
  have e : BitVec.ofBool (BitVec.sle 0#32 (x pos0)) &&& BitVec.ofBool (BitVec.slt (x pos0) 6#32) = 1#1 := congrFun h pos0
  generalize x pos0 = w at e
  have b (p q : Bool) (hpq : BitVec.ofBool p &&& BitVec.ofBool q = 1#1) : p = true ∧ q = true := by revert hpq; cases p <;> cases q <;> decide
  obtain ⟨h0, h6⟩ := b _ _ e
  simp only [BitVec.sle, BitVec.slt, decide_eq_true_eq, BitVec.toInt_eq_toNat_cond, BitVec.toNat_ofNat] at h0 h6
  have := w.isLt
  split at h0 <;> split at h6 <;> omega

/-- A row number below six reads the same with a sign and without. -/
theorem toInt_of_lt {w : BitVec 32} (h : w.toNat < 6) : w.toInt = w.toNat := by
  rw [BitVec.toInt_eq_toNat_cond, if_pos (by omega)]

/-- Entry `(r, j)` of the matrix's index set, `r` taken modulo six. -/
def cell (r : ℕ) (j : Fin 7) : S6x7.Idx := Fin.cons ⟨r % 6, Nat.mod_lt _ (by decide)⟩ (Fin.cons j fun a => a.elim0)

/-- The column `j` of the weights. -/
def col (j : Fin 7) : S7.Idx := fun a => ⟨j.val, by fin_cases a; exact j.isLt⟩

/-- The reference's row number: the argument, or the argument plus six where that is negative. -/
abbrev wrapped (x : IVec S_ 32) : IVec S_ 32 := select (cmpi .slt x (constantI S_ 32 0#32)) (addi x (constantI S_ 32 6#32)) x

/-- The reference's column number: zero, by the same rule. -/
abbrev colStart : IVec S_ 32 :=
  select (cmpi .slt (constantI S_ 32 0#32) (constantI S_ 32 0#32)) (addi (constantI S_ 32 0#32) (constantI S_ 32 7#32)) (constantI S_ 32 0#32)

/-- The row the reference takes out of the matrix, as seven numbers. -/
abbrev taken {α : Type} (a : S6x7.Idx → α) (x : IVec S_ 32) : S7.Idx → α :=
  shapeCast S7 (Host.dynamicSlice S1x7 a (fun k => ((![wrapped x, colStart] : Fin 2 → IVec S_ 32) k (Shape.Idx.first h_S_)).toInt) sliceFits_S6x7_S1x7)
    shapeCasts_S1x7_S7

/-- Where the row exists, the reference takes exactly that row. -/
theorem taken_apply {α : Type} (a : S6x7.Idx → α) (x : IVec S_ 32) (h : (x pos0).toNat < 6) (j : Fin 7) :
    taken a x (col j) = a (cell (x pos0).toNat j) := by
  have hz : Shape.Idx.first h_S_ = pos0 := funext fun k => k.elim0
  have hr : (wrapped x (Shape.Idx.first h_S_)).toInt = (x pos0).toNat := by
    unfold wrapped
    rw [hz, select_slt_zero_of_nonneg x _ _ pos0 (by rw [toInt_of_lt h]; omega), toInt_of_lt h]
  have hs : S6x7.Slices ![(x pos0).toNat, 0] S1x7 := ⟨rfl, fun k => by fin_cases k <;> simp <;> omega⟩
  unfold taken
  rw [Host.dynamicSlice_eq_extractStridedSlice S1x7 a _ ![(x pos0).toNat, 0] sliceFits_S6x7_S1x7 hs
    (fun k => by fin_cases k; exacts [hr, rfl])]
  show a _ = a _
  refine congrArg a (funext fun k => Fin.ext ?_)
  have e : Shape.reshapeEquiv shapeCasts_S1x7_S7 (col j) = (Fin.cons ⟨0, Nat.one_pos⟩ (col j) : S1x7.Idx) := Shape.reshapeEquiv_cons_one _ _
  fin_cases k
  · show (x pos0).toNat + (Shape.reshapeEquiv shapeCasts_S1x7_S7 (col j) 0).val = (x pos0).toNat % 6
    rw [e, Nat.mod_eq_of_lt h]; rfl
  · show 0 + (Shape.reshapeEquiv shapeCasts_S1x7_S7 (col j) 1).val = j.val
    rw [e]; exact Nat.zero_add _

/-- The row taken, as a matrix of one row. -/
abbrev oneRow {α : Type} (a : S6x7.Idx → α) (x : IVec S_ 32) : S1x7.Idx → α := broadcastInDim S1x7 ![1] bcast_S7_S1x7_1 (taken a x)

/-- Its entry in column `j` is the chosen row's. -/
theorem oneRow_apply {α : Type} (a : S6x7.Idx → α) (x : IVec S_ 32) (h : (x pos0).toNat < 6) (k : S1x7.Idx) (j : Fin 7) (hk : (k 1).val = j.val) :
    oneRow a x k = a (cell (x pos0).toNat j) :=
  (congrArg (taken a x) (funext fun b => Fin.ext (by fin_cases b; exact hk) : _ = col j)).trans (taken_apply a x h j)

/-- The reference's result over the extended reals: the sum of the row's entries times the weights. -/
theorem dot_eq (a : FVec Ideal S6x7 .f32) (t : FVec Ideal S7 .f32) (x : IVec S_ 32) (h : (x pos0).toNat < 6) :
    (shapeCast S_ (Host.dotGeneral (F := Ideal) dot_S1x7_S7_S1_1_0_0_n_n_n none (oneRow a x : FVec Ideal S1x7 .f32) t : FVec Ideal S1 .f32) shapeCasts_S1_S_
        : FVec Ideal S_ .f32)
      = fun _ => ∑ j : Fin 7, (a (cell (x pos0).toNat j) * t (col j) : EReal) := by
  funext i
  refine (Ideal.dotGeneral_apply _ _ _ _ _ _).trans ((DotDims.sum_contr₁ _ (a := (1 : Fin 2)) rfl (K := 7) rfl _).trans
    (Finset.sum_congr rfl fun j _ => ?_))
  have hl : (dot_S1x7_S7_S1_1_0_0_n_n_n.lhsIdx (Shape.reshapeEquiv shapeCasts_S1_S_ i)
      (dot_S1x7_S7_S1_1_0_0_n_n_n.contrIdx₁ (a := (1 : Fin 2)) rfl (K := 7) rfl j) 1).val = j.val :=
    DotDims.lhsIdx_val_of_single dot_S1x7_S7_S1_1_0_0_n_n_n (cl := (1 : Fin 2)) rfl _ _
  rw [oneRow_apply a x h _ j hl]
  refine congrArg (fun k => (a (cell (x pos0).toNat j) * t k : EReal)) (funext fun b => Fin.ext ?_)
  fin_cases b
  exact DotDims.rhsIdx_val_of_single dot_S1x7_S7_S1_1_0_0_n_n_n (cr := (0 : Fin 1)) rfl _ _

end Cert.Proof.Reference

end
-- ==== Proof.Equation.lean ====
/-
  The equation of the certificate: over the extended reals the kernel's seven products, added from the left, are the
  reference's sum over the seven columns.
-/
module

public import proofs.«01_k».proof.Proof.Row
public import proofs.«01_k».proof.Proof.Reference

@[expose] public section

noncomputable section

namespace Cert.Proof.Equation

open Cert.KernelIdeal Cert.KernelIdeal.Gen Cert.Proof.Row Cert.Proof.Reference Idealize.ShloMosaic

/-- Word `7 r + j` of the flattened matrix is the matrix's entry `(r, j)`. -/
theorem flat_apply {α : Type} (a : S6x7.Idx → α) {r : ℕ} (h : r < 6) (j : Fin 7) :
    shapeCast S42 a shapeCasts_S6x7_S42 (pos42 (7 * r + j.val)) = a (cell r j) := by
  refine congrArg a (Shape.reshapeEquiv_eq_of_rowMajor _ ?_)
  rw [Shape.rowMajor_val_one, Shape.rowMajor_val_two]
  show r % 6 * 7 + j.val = (7 * r + j.val) % 42
  have := j.isLt
  omega

/-- The kernel's value for an existing row is the sum over the columns. -/
theorem rowDot_eq (a : FVec Ideal S6x7 .f32) (t : FVec Ideal S7 .f32) {r : ℕ} (h : r < 6) :
    rowDot (F := Ideal) (shapeCast S42 a shapeCasts_S6x7_S42) t r = ∑ j : Fin 7, (a (cell r j) * t (col j) : EReal) := by
  have ht (j : Fin 7) : term (F := Ideal) (shapeCast S42 a shapeCasts_S6x7_S42) t r j.val = (a (cell r j) * t (col j) : EReal) := by
    have e : pos7 j.val = col j := funext fun k => Fin.ext (by fin_cases k; exact Nat.mod_eq_of_lt j.isLt)
    show (shapeCast S42 a shapeCasts_S6x7_S42 (pos42 (7 * r + j.val)) * t (pos7 j.val) : EReal) = _
    rw [flat_apply a h j, e]
  rw [Fin.sum_univ_seven, ← ht 0, ← ht 1, ← ht 2, ← ht 3, ← ht 4, ← ht 5, ← ht 6]
  rfl

end Cert.Proof.Equation

end
-- ==== Proof.RefRun.lean ====
/-
  The reference's run: its host operations as two lists, the row's number first and then the slice and the product, and what
  the result and the arguments hold when they have run.
-/
module

public import proofs.«01_k».proof.Proof.Reference
public import Idealize.ShloMosaic.Lib.StableHlo.Run

@[expose] public section

noncomputable section

namespace Cert.Proof.RefRun

open Cert.ReferenceIdeal Cert.ReferenceIdeal.Gen Cert.Proof.Reference
open Idealize.ShloMosaic Idealize.ShloMosaic.TcCoe Idealize.SL.Sem Idealize.ShloMosaic.StableHlo

variable {F : FTy → Type} [FloatOps F]

/-- The operations that form the row's and the column's number. -/
abbrev starts : List (HloOp τ sig (Elt F)) :=
  [ nullary main_c (constantI S_ 32 0#32),
    binary main_arg2 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 6#32),
    binary main_arg2 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg2 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v3 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 7#32),
    binary main_c_3 main_c_4 main_v4 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v3 main_v4 main_c_5 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The slice at those numbers. -/
abbrev slice : HloOp τ sig (Elt F) :=
  unaryIndexed main_arg0 ![main_v2, main_v5] ⟨S_, .i32⟩ main_v6 ((fun x i => Host.dynamicSlice S1x7 x (fun k => (i k (Shape.Idx.first h_S_)).toInt) sliceFits_S6x7_S1x7) : (⟨S6x7, .f32⟩ : BufTy).Contents (Elt F) → (Fin 2 → (⟨S_, .i32⟩ : BufTy).Contents (Elt F)) → (⟨S1x7, .f32⟩ : BufTy).Contents (Elt F))

/-- The operations from the slice to the result. -/
abbrev product : List (HloOp τ sig (Elt F)) :=
  [ reshape main_v6 main_v7 (rfl : (.f32 : EltTy) = .f32) shapeCasts_S1x7_S7,
    unary main_v7 main_v8 (broadcastInDim S1x7 ![1] bcast_S7_S1x7_1 : (⟨S7, .f32⟩ : BufTy).Contents (Elt F) → (⟨S1x7, .f32⟩ : BufTy).Contents (Elt F)),
    binary main_v8 main_arg1 main_v9 ((fun l r => Host.dotGeneral dot_S1x7_S7_S1_1_0_0_n_n_n none l r) : (⟨S1x7, .f32⟩ : BufTy).Contents (Elt F) → (⟨S7, .f32⟩ : BufTy).Contents (Elt F) → (⟨S1, .f32⟩ : BufTy).Contents (Elt F)),
    reshape main_v9 main_v10 (rfl : (.f32 : EltTy) = .f32) shapeCasts_S1_S_ ]

/-- The reference's operations, in order. -/
abbrev line : List (HloOp τ sig (Elt F)) := starts ++ slice :: product

/-- The program is the line. -/
theorem main_eq (c : Dev nD) : main (F := F) c = seq line := rfl

/-- The line touches the TensorCore's arrays only. -/
theorem line_sub : (line : List (HloOp τ sig (Elt F))).Forall fun op => op.bufs ⊆ tcRefs τ sig := by
  simp only [line, starts, product, List.cons_append, List.nil_append, List.forall_cons, List.Forall, nullary_bufs_sub, binary_bufs_sub, ternary_bufs_sub,
    unaryIndexed_bufs_sub, reshape_bufs_sub, unary_bufs_sub, and_self]

/-- Two lines in turn. -/
theorem after_append (xs ys : List (HloOp τ sig (Elt F))) (V : Valuation τ sig (Elt F)) : after (xs ++ ys) V = after ys (after xs V) :=
  List.rec (motive := fun xs => ∀ V, after (xs ++ ys) V = after ys (after xs V)) (fun _ => rfl) (fun _ _ ih _ => ih _) xs V

/-- What no operation of the line writes stays. -/
theorem line_keeps (V : Valuation τ sig (Elt F)) (r : Ref sig .tc)
    (h : r ∉ [main_c, main_v0, main_c_0, main_v1, main_v2, main_c_1, main_c_2, main_v3, main_c_3, main_c_4, main_v4, main_c_5, main_v5, main_v6,
      main_v7, main_v8, main_v9, main_v10]) : after line V (Proc.devRef .tc r) = V (Proc.devRef .tc r) :=
  after_of_writes_sub line V (forall_writes_sub_of_map rfl) h

/-- What the first list does not write stays over it. -/
theorem starts_keep (V : Valuation τ sig (Elt F)) (r : Ref sig .tc)
    (h : r ∉ [main_c, main_v0, main_c_0, main_v1, main_v2, main_c_1, main_c_2, main_v3, main_c_3, main_c_4, main_v4, main_c_5, main_v5]) :
    after starts V (Proc.devRef .tc r) = V (Proc.devRef .tc r) :=
  after_of_writes_sub starts V (forall_writes_sub_of_map rfl) h

/-- After the first list the slice's row number is the argument, wrapped. -/
theorem starts_row (V : Valuation τ sig (Elt F)) : after starts V (Proc.devRef .tc main_v2) = wrapped (V (Proc.devRef .tc main_arg2)) := by
  after_results <;> rfl

/-- After the first list the slice's column number is zero, as the reference forms it. -/
theorem starts_col (V : Valuation τ sig (Elt F)) : after starts V (Proc.devRef .tc main_v5) = colStart := by
  after_results <;> rfl

/-- What the slice leaves, from the two numbers. -/
theorem slice_res (V : Valuation τ sig (Elt F)) : (slice (F := F)).result V (Proc.devRef .tc main_v6)
    = Host.dynamicSlice S1x7 (V (Proc.devRef .tc main_arg0) : FVec F S6x7 .f32)
        (fun k => ((![V (Proc.devRef .tc main_v2), V (Proc.devRef .tc main_v5)] : Fin 2 → IVec S_ 32) k (Shape.Idx.first h_S_)).toInt) sliceFits_S6x7_S1x7 := by
  refine (unaryIndexed_result _ _ _ _ _ _ _ _ _ _).trans ?_
  refine congrArg (fun g => Host.dynamicSlice S1x7 (V (Proc.devRef .tc main_arg0) : FVec F S6x7 .f32) g sliceFits_S6x7_S1x7) (funext fun k => ?_)
  fin_cases k <;> rfl

/-- The result, from the slice and the weights. -/
theorem product_res (V : Valuation τ sig (Elt F)) : after product V (Proc.devRef .tc main_v10)
    = shapeCast S_ (Host.dotGeneral dot_S1x7_S7_S1_1_0_0_n_n_n none (broadcastInDim S1x7 ![1] bcast_S7_S1x7_1
        (shapeCast S7 (V (Proc.devRef .tc main_v6) : FVec F S1x7 .f32) shapeCasts_S1x7_S7)) (V (Proc.devRef .tc main_arg1) : FVec F S7 .f32)) shapeCasts_S1_S_ := by
  after_results <;> rfl

/-- The reference's result, from its arguments. -/
theorem line_res (V : Valuation τ sig (Elt F)) : after line V (Proc.devRef .tc main_v10)
    = shapeCast S_ (Host.dotGeneral dot_S1x7_S7_S1_1_0_0_n_n_n none
        (oneRow (V (Proc.devRef .tc main_arg0) : FVec F S6x7 .f32) (V (Proc.devRef .tc main_arg2)) : FVec F S1x7 .f32)
        (V (Proc.devRef .tc main_arg1) : FVec F S7 .f32)) shapeCasts_S1_S_ := by
  rw [line, after_append, after_cons, product_res, slice_res, starts_row, starts_col, starts_keep V main_arg0 (by decide),
    (slice (F := F)).result_of_not_mem _ (show Proc.devRef .tc main_arg1 ∉ ({Proc.devRef .tc main_v6} : Finset (DevRef τ sig)) by decide),
    starts_keep V main_arg1 (by decide)]
  unfold oneRow taken
  rfl

/-- Every weakly fair execution of the reference ends, its result so formed and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = shapeCast S_ (Host.dotGeneral dot_S1x7_S7_S1_1_0_0_n_n_n none
              (oneRow (m ((c.tc : Thread nD τ).loc main_arg0) : FVec F S6x7 .f32) (m ((c.tc : Thread nD τ).loc main_arg2)) : FVec F S1x7 .f32)
              (m ((c.tc : Thread nD τ).loc main_arg1) : FVec F S7 .f32)) shapeCasts_S1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (line_res _), (h c main_arg0).trans (line_keeps _ main_arg0 (by decide)),
      (h c main_arg1).trans (line_keeps _ main_arg1 (by decide)), (h c main_arg2).trans (line_keeps _ main_arg2 (by decide))⟩)
    (run_seq (by decide) (by decide) defs main (fun _ => line) main_eq (fun _ => line_sub) m ρ)

end Cert.Proof.RefRun

end
-- ==== Proof.lean ====
/-
  The proof of `Cert.Claim`. The kernel's run is `Main.run_main` (Proof/Main.lean, over any float values): it gives the
  frame of the program at the words, the frame of the program at the extended reals, and the kernel's side of the value
  claim. The reference's run is in Proof/RefRun.lean; its result is evaluated in Proof/Reference.lean, and Proof/Equation.lean
  states that the two values are equal.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_row_exists
public import proofs.«01_k».proof.Proof.Main
public import proofs.«01_k».proof.Proof.Equation
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Cert.Proof.Launch Cert.Proof.Main Cert.Proof.Reference Cert.Proof.Equation

/-- Where the precondition holds of a device's arguments, the row's number in its memory is below six. -/
theorem word_lt {F : FTy → Type} [FloatOps F] {m : (ℓ : Loc Cert.KernelIdeal.nD Cert.KernelIdeal.τ Cert.KernelIdeal.sig) → Buf (Elt F) ℓ}
    (h : ∀ c, Cert.Pre_row_exists.fn (F := F) (m (arg0Loc c)) (m (arg1Loc c)) (m (arg2Loc c)) = fun _ => 1#1)
    (d : Dev Cert.KernelIdeal.nD) : (word m d).toNat < 6 :=
  row_lt (h d)

/-- The kernel at the words runs, leaves its arguments as they were and every counter at zero. -/
theorem frame_kernel : Cert.quiescent_Kernel := fun m ρ h =>
  (θ_run Cert.KernelIdeal.defs _ _).mono (fun _ hr => ⟨fun c => ⟨(hr.1 c).1, (hr.1 c).2.1, (hr.1 c).2.2.1⟩, hr.2⟩)
    (run_main (F := Bits) m ρ (word_lt (F := Bits) (m := m) h))

/-- So does the kernel at the extended reals. -/
theorem frame_kernelIdeal : Cert.quiescent_KernelIdeal := fun m ρ h =>
  (θ_run Cert.KernelIdeal.defs _ _).mono (fun _ hr => ⟨fun c => ⟨(hr.1 c).1, (hr.1 c).2.1, (hr.1 c).2.2.1⟩, hr.2⟩)
    (run_main (F := Ideal) m ρ (word_lt h))

/-- So does the reference, whatever its arguments; it has no semaphores. -/
theorem frame_reference : Cert.quiescent_ReferenceIdeal := fun m ρ _ =>
  (θ_run Cert.ReferenceIdeal.defs _ _).mono (fun r hr => ⟨fun c => (hr c).2, sem_eq_zero_of_no_sems rfl r.2⟩)
    (Cert.Proof.RefRun.run (F := Ideal) m ρ)

/-- Kernel and reference compute the same function over the extended reals: the dot product of the chosen row with the
    weights. -/
theorem value_equal : Cert.algebraic_KernelIdeal_ReferenceIdeal := fun m ρ m' ρ' h hm => by
  refine ⟨fun c _ => value m c, (θ_run Cert.KernelIdeal.defs _ _).mono
      (fun _ hr c => ⟨(hr.1 c).2.2.2, (hr.1 c).1, (hr.1 c).2.1, (hr.1 c).2.2.1⟩) (run_main (F := Ideal) m ρ (word_lt h)),
    (θ_run Cert.ReferenceIdeal.defs _ _).mono (fun _ hr c => ⟨(hr c).1.trans ?_, (hr c).2⟩) (Cert.Proof.RefRun.run (F := Ideal) m' ρ')⟩
  rw [(hm c).1, (hm c).2.1, (hm c).2.2]
  exact (dot_eq _ _ _ (word_lt h c)).trans (funext fun _ => (rowDot_eq _ _ (word_lt h c)).symm)

/-- The certificate's claim. -/
theorem claim : Cert.Claim := ⟨Cert.Kernel.Gen.facts, Cert.KernelIdeal.Gen.facts, Cert.ReferenceIdeal.Gen.facts, Cert.Pre_row_exists.Gen.facts,
  frame_kernel, frame_kernelIdeal, frame_reference, fun m ρ _ => frame_reference m ρ trivial, trivial, value_equal⟩

end Cert.Proof

end
